-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S128x4096 : Shape := ⟨2, ![128, 4096]⟩
abbrev S128 : Shape := ⟨1, ![128]⟩
abbrev S256x128 : Shape := ⟨2, ![256, 128]⟩
abbrev S256 : Shape := ⟨1, ![256]⟩
abbrev S128x256 : Shape := ⟨2, ![128, 256]⟩
abbrev S64x128 : Shape := ⟨2, ![64, 128]⟩
abbrev S64 : Shape := ⟨1, ![64]⟩
abbrev S1x128 : Shape := ⟨2, ![1, 128]⟩
abbrev S1x256 : Shape := ⟨2, ![1, 256]⟩
abbrev S1x64 : Shape := ⟨2, ![1, 64]⟩
abbrev S8192x64 : Shape := ⟨2, ![8192, 64]⟩
abbrev S1024x2048 : Shape := ⟨2, ![1024, 2048]⟩
abbrev S1024x64 : Shape := ⟨2, ![1024, 64]⟩
abbrev S1 : Shape := ⟨1, ![1]⟩
abbrev S128x2048 : Shape := ⟨2, ![128, 2048]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x1024x1 : Shape := ⟨3, ![1, 1024, 1]⟩
abbrev S1x1x1 : Shape := ⟨3, ![1, 1, 1]⟩

abbrev nBuf : Space → Nat
  | .hbm => 14
  | .vmem => 14
  | .smem => 1
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x128, .f32⟩
  | .hbm, ⟨10, _⟩ => ⟨S1x256, .f32⟩
  | .hbm, ⟨11, _⟩ => ⟨S1x128, .f32⟩
  | .hbm, ⟨12, _⟩ => ⟨S1x64, .f32⟩
  | .hbm, ⟨13, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S128x4096, .f32⟩
  | .local _ .vmem, ⟨5, _⟩ => ⟨S1x128, .f32⟩
  | .local _ .vmem, ⟨6, _⟩ => ⟨S256x128, .f32⟩
  | .local _ .vmem, ⟨7, _⟩ => ⟨S1x256, .f32⟩
  | .local _ .vmem, ⟨8, _⟩ => ⟨S128x256, .f32⟩
  | .local _ .vmem, ⟨9, _⟩ => ⟨S1x128, .f32⟩
  | .local _ .vmem, ⟨10, _⟩ => ⟨S64x128, .f32⟩
  | .local _ .vmem, ⟨11, _⟩ => ⟨S1x64, .f32⟩
  | .local _ .vmem, ⟨12, _⟩ => ⟨S1024x64, .f32⟩
  | .local _ .vmem, ⟨13, _⟩ => ⟨S1024x64, .f32⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v71 : BitVec 1 := Scalar.cmpi .slt arg0 c7_i32
  let v72 : BitVec 32 := Scalar.extui v71
  let c0_i32_39 : BitVec 32 := 0#32
  let v73 : BitVec 1 := Scalar.cmpi .ne v72 c0_i32_39
  v73

def k0_cond3 (i : grid0.Coords) : BitVec 1 :=
  let arg0 : BitVec 32 := BitVec.ofNat 32 (i 0).val
  let c7_i32_40 : BitVec 32 := 7#32
  let v74 : BitVec 1 := Scalar.cmpi .eq arg0 c7_i32_40
  let v75 : BitVec 32 := Scalar.extui v74
  let c0_i32_41 : BitVec 32 := 0#32
  let v76 : BitVec 1 := Scalar.cmpi .ne v75 c0_i32_41
  v76

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x4096 : Shape := ⟨2, ![8192, 4096]⟩
abbrev S128x4096 : Shape := ⟨2, ![128, 4096]⟩
abbrev S128 : Shape := ⟨1, ![128]⟩
abbrev S256x128 : Shape := ⟨2, ![256, 128]⟩
abbrev S256 : Shape := ⟨1, ![256]⟩
abbrev S128x256 : Shape := ⟨2, ![128, 256]⟩
abbrev S64x128 : Shape := ⟨2, ![64, 128]⟩
abbrev S64 : Shape := ⟨1, ![64]⟩
abbrev S4096x128 : Shape := ⟨2, ![4096, 128]⟩
abbrev S8192x128 : Shape := ⟨2, ![8192, 128]⟩
abbrev S1x128 : Shape := ⟨2, ![1, 128]⟩
abbrev S_ : Shape := ⟨0, ![]⟩
abbrev S8192x256 : Shape := ⟨2, ![8192, 256]⟩
abbrev S1x256 : Shape := ⟨2, ![1, 256]⟩
abbrev S128x64 : Shape := ⟨2, ![128, 64]⟩
abbrev S8192x64 : Shape := ⟨2, ![8192, 64]⟩
abbrev S1x64 : Shape := ⟨2, ![1, 64]⟩
abbrev S8192x2 : Shape := ⟨2, ![8192, 2]⟩
abbrev S1x2 : Shape := ⟨2, ![1, 2]⟩
abbrev S2 : Shape := ⟨1, ![2]⟩
abbrev S2x1 : Shape := ⟨2, ![2, 1]⟩
abbrev S2x2 : Shape := ⟨2, ![2, 2]⟩

abbrev nBuf : Space → Nat
  | .hbm => 72
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S4096x128, .f32⟩
  | .hbm, ⟨10, _⟩ => ⟨S8192x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S128x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .i1⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S256x128, .f32⟩
  | .hbm, ⟨30, _⟩ => ⟨S8192x128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .i1⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S128x64, .f32⟩
  | .hbm, ⟨42, _⟩ => ⟨S8192x64, .f32⟩
  | .hbm, ⟨43, _⟩ => ⟨S1x64, .f32⟩
  | .hbm, ⟨44, _⟩ => ⟨S8192x64, .f32⟩
  | .hbm, ⟨45, _⟩ => ⟨S8192x64, .f32⟩
  | .hbm, ⟨46, _⟩ => ⟨S8192x2, .f32⟩
  | .hbm, ⟨47, _⟩ => ⟨S8192x2, .i32⟩
  | .hbm, ⟨48, _⟩ => ⟨S_, .f32⟩
  | .hbm, ⟨49, _⟩ => ⟨S8192x64, .f32⟩
  | .hbm, ⟨50, _⟩ => ⟨S1x2, .i32⟩
  | .hbm, ⟨51, _⟩ => ⟨S2, .i32⟩
  | .hbm, ⟨52, _⟩ => ⟨S1x2, .f32⟩
  | .hbm, ⟨53, _⟩ => ⟨S2, .f32⟩
  | .hbm, ⟨54, _⟩ => ⟨S_, .f32⟩
  | .hbm, ⟨55, _⟩ => ⟨S_, .f32⟩
  | .hbm, ⟨56, _⟩ => ⟨S2, .f32⟩
  | .hbm, ⟨57, _⟩ => ⟨S2, .f32⟩
  | .hbm, ⟨58, _⟩ => ⟨S_, .i32⟩
  | .hbm, ⟨59, _⟩ => ⟨S2, .i32⟩
  | .hbm, ⟨60, _⟩ => ⟨S2, .i1⟩
  | .hbm, ⟨61, _⟩ => ⟨S_, .i32⟩
  | .hbm, ⟨62, _⟩ => ⟨S2, .i32⟩
  | .hbm, ⟨63, _⟩ => ⟨S2, .i32⟩
  | .hbm, ⟨64, _⟩ => ⟨S2, .i32⟩
  | .hbm, ⟨65, _⟩ => ⟨S_, .i32⟩
  | .hbm, ⟨66, _⟩ => ⟨S2, .i32⟩
  | .hbm, ⟨67, _⟩ => ⟨S2, .i32⟩
  | .hbm, ⟨68, _⟩ => ⟨S2x1, .i32⟩
  | .hbm, ⟨69, _⟩ => ⟨S2x1, .i32⟩
  | .hbm, ⟨70, _⟩ => ⟨S2x2, .i32⟩
  | .hbm, ⟨71, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_values : Ref sig .tc := ⟨.hbm, 46, rfl⟩
abbrev main_indices : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.TopTwo.lean ====
/-
  The two greatest entries of a finite list of extended reals, equal entries taken in the order of their positions:
  which positions they are, and that a stable descending sort puts them first.
-/
module

public import Idealize.ShloMosaic.Lib.SortPrefix
public import Mathlib.Data.EReal.Operations
public import Mathlib.Data.Prod.Lex

@[expose] public section

noncomputable section

namespace Cert.TopTwo

open Idealize.ShloMosaic

variable {n : ℕ}

/-- Position `i` holds the greatest of the entries that `p` admits, and it is the first such position. -/
structure First (p : Fin n → Prop) (f : Fin n → EReal) (i : Fin n) : Prop where
  mem : p i
  le : ∀ k, p k → f k ≤ f i
  fst : ∀ k, p k → f k = f i → i ≤ k

/-- Positions `i` and `j` hold the greatest and the second greatest entry, the earlier position first among equal ones. -/
structure Best (f : Fin n → EReal) (i j : Fin n) : Prop where
  one : First (fun _ => True) f i
  two : First (fun k => k ≠ i) f j

/-- Some admitted position holds the greatest admitted entry first. -/
theorem First.exists (p : Fin n → Prop) (f : Fin n → EReal) (h : ∃ k, p k) : ∃ i, First p f i := by
  classical
  obtain ⟨k, hk⟩ := h
  obtain ⟨i, hi, hm⟩ := Finset.exists_max_image (Finset.univ.filter p)
    (fun k => toLex (f k, OrderDual.toDual k)) ⟨k, by simp [hk]⟩
  simp only [Finset.mem_filter, Finset.mem_univ, true_and] at hi hm
  refine ⟨i, hi, fun k hk => ?_, fun k hk e => ?_⟩
  · rcases (Prod.Lex.le_iff).1 (hm k hk) with h | h
    · exact le_of_lt h
    · exact le_of_eq h.1
  · rcases (Prod.Lex.le_iff).1 (hm k hk) with h | h
    · exact absurd e (ne_of_lt h)
    · exact h.2

/-- That position is the only one. -/
theorem First.unique {p : Fin n → Prop} {f : Fin n → EReal} {i j : Fin n} (hi : First p f i) (hj : First p f j) : i = j := by
  have e : f i = f j := le_antisymm (hj.le i hi.mem) (hi.le j hj.mem)
  exact le_antisymm (hi.fst j hj.mem e.symm) (hj.fst i hi.mem e)

/-- Of two entries or more there are two greatest. -/
theorem Best.exists (f : Fin (n + 2) → EReal) : ∃ i j, Best f i j := by
  obtain ⟨i, hi⟩ := First.exists (fun _ => True) f ⟨0, trivial⟩
  obtain ⟨j, hj⟩ := First.exists (fun k => k ≠ i) f (exists_ne i)
  exact ⟨i, j, hi, hj⟩

/-- The position of the greatest entry. -/
def best (f : Fin (n + 2) → EReal) : Fin (n + 2) := (Best.exists f).choose

/-- The position of the second greatest entry. -/
def next (f : Fin (n + 2) → EReal) : Fin (n + 2) := (Best.exists f).choose_spec.choose

/-- The two named positions are the two greatest entries' positions. -/
theorem best_spec (f : Fin (n + 2) → EReal) : Best f (best f) (next f) := (Best.exists f).choose_spec.choose_spec

/-- The order of a stable descending sort, ties broken by position: a strict total order. -/
theorem strict (f : Fin n → EReal) :
    StrictTotalBefore fun k k' : Fin n => decide (f k' < f k) || (decide (f k = f k') && decide (k < k')) :=
  StrictTotalBefore.of_key_then_position (fun a b : EReal => decide (b < a)) f (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- A stable sort compares a later element with an earlier one only, so a relation may be completed by position. -/
theorem stableSort_positions (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The sorting permutation of "greater first" is the one of the order completed by position. -/
theorem sortedFrom_positions (R R' : Fin n → Fin n → Bool) (h : ∀ a b, a < b → R b a = R' b a) :
    sortedFrom R = sortedFrom R' := by
  funext k
  unfold sortedFrom
  have e : sortPositions n R = sortPositions n R' := stableSort_positions R R' h _ (List.pairwise_lt_finRange n)
  rw [List.get_of_eq e]
  rfl

/-- A stable descending sort puts the two greatest entries' positions at its first two places. -/
theorem sortedFrom_best (f : Fin (n + 2) → EReal) (B : Fin (n + 2) → Fin (n + 2) → Bool)
    (hB : ∀ k k', B k k' = decide (f k' < f k)) :
    sortedFrom B 0 = best f ∧ sortedFrom B 1 = next f := by
  obtain ⟨⟨_, h1, h1'⟩, ⟨hne, h2, h2'⟩⟩ := best_spec f
  have e := sortedFrom_positions B (fun k k' => decide (f k' < f k) || (decide (f k = f k') && decide (k < k')))
    (fun a b hab => by rw [hB]; simp [not_lt_of_gt hab])
  have key := (strict f).sortedFrom_eq_of_prefix (k := 2) (by omega) ![best f, next f]
    (by
      intro a b hab
      fin_cases a <;> fin_cases b <;> simp_all)
    (by
      intro a b hab
      fin_cases a <;> fin_cases b <;> simp_all [Bool.or_eq_false_iff])
    (by
      intro a p hp
      have p0 : best f ≠ p := hp 0
      have p1 : next f ≠ p := hp 1
      fin_cases a
      · simp only [Bool.or_eq_false_iff, decide_eq_false_iff_not, not_lt, Bool.and_eq_false_imp, decide_eq_true_eq]
        exact ⟨h1 p trivial, fun q => h1' p trivial q⟩
      · simp only [Bool.or_eq_false_iff, decide_eq_false_iff_not, not_lt, Bool.and_eq_false_imp, decide_eq_true_eq]
        exact ⟨h2 p p0.symm, fun q => h2' p p0.symm q⟩)
  rw [e]
  exact ⟨key 0, key 1⟩

end Cert.TopTwo

end
-- ==== Proof.Row.lean ====
/-
  One row of the gate, without any program: the layers' scores of a row, the row's two greatest scores as the kernel
  finds them (two maxima, a count of the ties, two least positions), and the row of the result.
-/
module

public import proofs.«01_k».proof.Proof.TopTwo
public import Idealize.ShloMosaic.PureOps.Ideal.Laws
public import Idealize.ShloMosaic.PureOps.Reduce
public import Idealize.ShloMosaic.Lib.WordCmp

@[expose] public section

noncomputable section

namespace Cert.Row

open Idealize.ShloMosaic Cert.TopTwo

/-- A dense layer: entry `i` is the input times row `i` of the weights, plus the bias. -/
def dense {k n : ℕ} (W : Fin n → Fin k → EReal) (b : Fin n → EReal) (h : Fin k → EReal) (i : Fin n) : EReal :=
  (∑ j, h j * W i j) + b i

/-- The slope of the leaky layers on negative entries. -/
def leakSlope : EReal := Ideal.ofBits .f32 0x3C23D70A#32

/-- A leaky rectifier. -/
def leaky (x : EReal) : EReal := if 0 ≤ x then x else leakSlope * x

/-- The scores of a row: four dense layers, a rectifier after the first, leaky ones after the second and the third. -/
def scores (W1 : Fin 128 → Fin 4096 → EReal) (b1 : Fin 128 → EReal) (W2 : Fin 256 → Fin 128 → EReal) (b2 : Fin 256 → EReal)
    (W3 : Fin 128 → Fin 256 → EReal) (b3 : Fin 128 → EReal) (W4 : Fin 64 → Fin 128 → EReal) (b4 : Fin 64 → EReal)
    (x : Fin 4096 → EReal) : Fin 64 → EReal :=
  dense W4 b4 fun l => leaky (dense W3 b3 (fun k => leaky (dense W2 b2 (fun j => max (dense W1 b1 x j) 0) k)) l)

/-- The pattern of minus infinity denotes the least extended real. -/
theorem ofBits_negInf : Ideal.ofBits .f32 0xFF800000#32 = ⊥ := by simp [Ideal.ofBits, Ideal.ieee]

/-- The least word among those of the admitted positions is the first admitted position's. -/
theorem fold_minsi (p : Fin 64 → Prop) [DecidablePred p] (i : Fin 64) (hi : p i) (hl : ∀ k, p k → i ≤ k) :
    Finset.univ.fold IntOp.minsi 2147483647#32 (fun k : Fin 64 => if p k then BitVec.ofNat 32 k.val else 64#32)
      = BitVec.ofNat 32 i.val := by
  have hw : ∀ k : Fin 64, (BitVec.ofNat 32 k.val).toInt = (k.val : ℤ) := fun k =>
    WordCmp.toInt_ofNat_of_lt (by have := k.isLt; omega)
  have hmin : ∀ a b : BitVec 32, (IntOp.minsi a b).toInt = min a.toInt b.toInt := by
    intro a b
    unfold IntOp.minsi BitVec.slt
    by_cases h : a.toInt < b.toInt
    · simp [h, min_eq_left (le_of_lt h)]
    · simp [h, min_eq_right (not_lt.1 h)]
  refine BitVec.eq_of_toInt_eq (le_antisymm ?_ ?_)
  · refine (Finset.fold_op_rel_iff_or (op := IntOp.minsi) (r := fun x y : BitVec 32 => y.toInt ≤ x.toInt) ?_).2
      (Or.inr ⟨i, Finset.mem_univ _, ?_⟩)
    · intro x y z; rw [hmin]; exact min_le_iff
    · rw [if_pos hi]
  · refine (Finset.fold_op_rel_iff_and (op := IntOp.minsi) (r := fun x y : BitVec 32 => x.toInt ≤ y.toInt) ?_).2
      ⟨?_, fun k _ => ?_⟩
    · intro x y z; rw [hmin]; exact le_min_iff
    · rw [hw]; have := i.isLt
      have e : (2147483647#32 : BitVec 32).toInt = 2147483647 := by decide
      rw [e]; omega
    · have := i.isLt
      split
      · rename_i h; rw [hw, hw]; exact_mod_cast hl k h
      · have e : (64#32 : BitVec 32).toInt = 64 := by decide
        rw [hw, e]; omega

/-- The maximum of a row, started from minus infinity, is its greatest entry. -/
theorem fold_max_eq {p : Fin 64 → Prop} (f g : Fin 64 → EReal) (i : Fin 64) (hi : First p f i) (hg : ∀ k, p k → g k = f k)
    (hb : ∀ k, ¬p k → g k = ⊥) : Finset.univ.fold max (⊥ : EReal) g = f i := by
  classical
  refine le_antisymm ?_ ?_
  · refine (Finset.fold_max_le _).2 ⟨bot_le, fun k _ => ?_⟩
    by_cases h : p k
    · rw [hg k h]; exact hi.le k h
    · rw [hb k h]; exact bot_le
  · exact (Finset.le_fold_max _).2 (Or.inr ⟨i, Finset.mem_univ _, by rw [hg i hi.mem]⟩)

/-- The first maximum of a row. -/
theorem max_one (f : Fin 64 → EReal) : Finset.univ.fold max (⊥ : EReal) f = f (best f) :=
  fold_max_eq f f _ (best_spec f).one (fun _ _ => rfl) (fun _ h => absurd trivial h)

/-- The count of the entries that equal the maximum exceeds one exactly when another position holds it too. -/
theorem one_lt_count (f : Fin 64 → EReal) (i : Fin 64) :
    (1 : EReal) < ∑ k, FloatOps.sitofp (F := Ideal) FTy.f32 (BitVec.setWidth 32 (BitVec.ofBool (decide (f k = f i))))
      ↔ ∃ k, k ≠ i ∧ f k = f i := by
  classical
  have e : ∀ k, FloatOps.sitofp (F := Ideal) FTy.f32 (BitVec.setWidth 32 (BitVec.ofBool (decide (f k = f i))))
      = if f k = f i then (1 : EReal) else 0 := by
    intro k
    show ((((BitVec.setWidth 32 (BitVec.ofBool (decide (f k = f i)))).toInt : ℝ)) : EReal) = _
    by_cases h : f k = f i
    · have : (BitVec.setWidth 32 (BitVec.ofBool true)).toInt = 1 := by decide
      simp [h, this]
    · have : (BitVec.setWidth 32 (BitVec.ofBool false)).toInt = 0 := by decide
      simp [h, this]
  rw [Finset.sum_congr rfl fun k _ => e k, Finset.sum_boole]
  rw [show (1 : EReal) = ((1 : ℕ) : EReal) by norm_num, EReal.natCast_lt_iff, Finset.one_lt_card]
  constructor
  · rintro ⟨a, ha, b, hb, hab⟩
    simp only [Finset.mem_filter, Finset.mem_univ, true_and] at ha hb
    by_cases h : a = i
    · exact ⟨b, fun q => hab (h.trans q.symm), hb⟩
    · exact ⟨a, h, ha⟩
  · rintro ⟨k, hk, e⟩
    exact ⟨k, by simp [e], i, by simp, hk⟩

/-- The second maximum as the kernel takes it: the first again when it is tied, else the maximum of the other values. -/
theorem max_two (f : Fin 64 → EReal) :
    (if (1 : EReal) < ∑ k, FloatOps.sitofp (F := Ideal) FTy.f32 (BitVec.setWidth 32 (BitVec.ofBool (decide (f k = f (best f)))))
      then f (best f) else Finset.univ.fold max (⊥ : EReal) fun k => if f k = f (best f) then ⊥ else f k) = f (next f) := by
  have hB := best_spec f
  by_cases h : ∃ k, k ≠ best f ∧ f k = f (best f)
  · rw [if_pos ((one_lt_count f _).2 h)]
    obtain ⟨k, hk, e⟩ := h
    exact le_antisymm (e ▸ hB.two.le k hk) (hB.one.le _ trivial)
  · rw [if_neg fun q => h ((one_lt_count f _).1 q)]
    refine fold_max_eq f _ _ hB.two (fun k hk => if_neg fun q => h ⟨k, hk, q⟩) (fun k hk => if_pos ?_)
    rw [not_not.1 hk]

/-- The word of the first maximum's position. -/
theorem pos_one (f : Fin 64 → EReal) :
    Finset.univ.fold IntOp.minsi 2147483647#32 (fun k : Fin 64 => if f k = f (best f) then BitVec.ofNat 32 k.val else 64#32)
      = BitVec.ofNat 32 (best f).val :=
  fold_minsi (fun k => f k = f (best f)) _ rfl fun k h => (best_spec f).one.fst k trivial h

/-- The word of the second maximum's position, found among the positions other than the first's. -/
theorem pos_two (f : Fin 64 → EReal) (hne : f (next f) ≠ ⊥) :
    Finset.univ.fold IntOp.minsi 2147483647#32
        (fun k : Fin 64 => if (if k = best f then ⊥ else f k) = f (next f) then BitVec.ofNat 32 k.val else 64#32)
      = BitVec.ofNat 32 (next f).val := by
  have hB := best_spec f
  refine fold_minsi (fun k => (if k = best f then ⊥ else f k) = f (next f)) _ ?_ fun k h => ?_
  · rw [if_neg hB.two.mem]
  · by_cases q : k = best f
    · rw [if_pos q] at h; exact absurd h.symm hne
    · rw [if_neg q] at h; exact hB.two.fst k q h

/-- Anything divided by minus infinity is zero. -/
theorem div_bot (x : EReal) : Ideal.div x ⊥ = 0 := by
  unfold Ideal.div
  rw [if_neg (by simp)]
  simp

/-- The gate's row: the two greatest scores over the total at their positions, zero elsewhere. -/
def gate (f : Fin 64 → EReal) (s : EReal) (o : Fin 64) : EReal :=
  if o = best f then Ideal.div (f (best f)) s else if o = next f then Ideal.div (f (next f)) s else 0

/-- The row as the kernel selects it, from the words of the two positions. -/
theorem gate_eq (f : Fin 64 → EReal) (s : EReal) (hs : f (next f) = ⊥ → s = ⊥) (o : Fin 64) :
    (if BitVec.ofNat 32 o.val = BitVec.ofNat 32 (best f).val then Ideal.div (f (best f)) s
      else if BitVec.ofNat 32 o.val = Finset.univ.fold IntOp.minsi 2147483647#32
          (fun k : Fin 64 => if (if k = best f then ⊥ else f k) = f (next f) then BitVec.ofNat 32 k.val else 64#32)
        then Ideal.div (f (next f)) s else 0) = gate f s o := by
  have hw : ∀ a b : Fin 64, BitVec.ofNat 32 a.val = BitVec.ofNat 32 b.val ↔ a = b := fun a b => by
    have := a.isLt; have := b.isLt
    rw [WordCmp.ofNat_eq_ofNat_iff (by omega) (by omega), Fin.ext_iff]
  unfold gate
  by_cases hb : f (next f) = ⊥
  · rw [hs hb]; simp only [div_bot, ite_self]
  · simp only [pos_two f hb, hw]

/-- A total one of whose terms is minus infinity is minus infinity. -/
theorem sum_bot {ι : Type} (s : Finset ι) (g : ι → EReal) (i : ι) (hi : i ∈ s) (h : g i = ⊥) : ∑ k ∈ s, g k = ⊥ := by
  classical
  rw [← Finset.add_sum_erase s g hi, h, EReal.bot_add]

end Cert.Row

end
-- ==== Proof.Block.lean ====
/-
  What the kernel's body computes on one block of rows, read at an index: the rows' scores, each row's two greatest
  scores, the running total, and the last block of the result.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Block

open Cert.KernelIdeal Cert.KernelIdeal.Gen Idealize.ShloMosaic Cert.TopTwo Cert.Row

/-- Row `r` of the block of scores. -/
def row (v28 : FVec Ideal S1024x128 .f32) (v30 : FVec Ideal S1x128 .f32) (v38 : Vec Ideal S64x128 .f32)
    (v40 : Vec Ideal S1x64 .f32) (r : Fin 1024) (o : Fin 64) : EReal := k0_pay5 v28 v30 v38 v40 (ix2 r o)

/-- A row of scores as the four layers of its input row, whose two halves the body holds in two blocks. -/
theorem row_eq (v3 : Vec Ideal S1024x2048 .f32) (v4 : Vec Ideal S128x2048 .f32) (v6 : Vec Ideal S1024x2048 .f32)
    (v7 : Vec Ideal S128x2048 .f32) (v10 : Vec Ideal S1x128 .f32) (v16 : Vec Ideal S256x128 .f32) (v18 : Vec Ideal S1x256 .f32)
    (v27 : Vec Ideal S128x256 .f32) (v29 : Vec Ideal S1x128 .f32) (v38 : Vec Ideal S64x128 .f32) (v40 : Vec Ideal S1x64 .f32)
    (x : Fin 4096 → EReal) (W1 : Fin 128 → Fin 4096 → EReal) (r : Fin 1024)
    (h3 : ∀ k : Fin 2048, v3 (ix2 r k) = x ⟨k.val, by omega⟩) (h6 : ∀ k : Fin 2048, v6 (ix2 r k) = x ⟨2048 + k.val, by omega⟩)
    (h4 : ∀ (j : Fin 128) (k : Fin 2048), v4 (ix2 j k) = W1 j ⟨k.val, by omega⟩)
    (h7 : ∀ (j : Fin 128) (k : Fin 2048), v7 (ix2 j k) = W1 j ⟨2048 + k.val, by omega⟩) :
    row (k0_pay3 v3 v4 v6 v7 v10 v16 v18 v27) (k0_pay4 v29) v38 v40 r
      = scores W1 (fun j => v10 (ix2 0 j)) (fun k j => v16 (ix2 k j)) (fun k => v18 (ix2 0 k)) (fun l k => v27 (ix2 l k))
          (fun l => v29 (ix2 0 l)) (fun o l => v38 (ix2 o l)) (fun o => v40 (ix2 0 o)) x := by
  funext o
  unfold row
  pointwise [k0_pay5, k0_pay4, k0_pay3]
  simp only [scores, dense, leaky, leakSlope]
  have hs : ∀ j : Fin 128, ∑ k, v3 (ix2 r k) * v4 (ix2 j k) + ∑ k, v6 (ix2 r k) * v7 (ix2 j k) = ∑ k, x k * W1 j k := by
    intro j
    rw [Fin.sum_univ_two_halves 2048 2048 rfl (fun k => x k * W1 j k)]
    refine congrArg₂ (· + ·) (Finset.sum_congr rfl fun k _ => ?_) (Finset.sum_congr rfl fun k _ => ?_)
    · rw [h3, h4]
    · rw [h6, h7]
  simp only [hs]
  rfl

/-- The column of first maxima. -/
theorem pay6_eq (v28 : FVec Ideal S1024x128 .f32) (v30 : FVec Ideal S1x128 .f32) (v38 : Vec Ideal S64x128 .f32)
    (v40 : Vec Ideal S1x64 .f32) (r : Fin 1024) :
    k0_pay6 v28 v30 v38 v40 (ix2 r 0) = row v28 v30 v38 v40 r (best (row v28 v30 v38 v40 r)) := by
  pointwise [k0_pay6]
  rw [ofBits_negInf]
  exact max_one (row v28 v30 v38 v40 r)

/-- The mask of the entries that equal their row's maximum. -/
theorem pay7_eq (v28 : FVec Ideal S1024x128 .f32) (v30 : FVec Ideal S1x128 .f32) (v38 : Vec Ideal S64x128 .f32)
    (v40 : Vec Ideal S1x64 .f32) (r : Fin 1024) (o : Fin 64) :
    k0_pay7 v28 v30 v38 v40 (ix2 r o)
      = BitVec.ofBool (decide (row v28 v30 v38 v40 r o = row v28 v30 v38 v40 r (best (row v28 v30 v38 v40 r)))) := by
  pointwise [k0_pay7]
  rw [pay6_eq]
  rfl

/-- The column of second maxima. -/
theorem pay8_eq (v28 : FVec Ideal S1024x128 .f32) (v30 : FVec Ideal S1x128 .f32) (v38 : Vec Ideal S64x128 .f32)
    (v40 : Vec Ideal S1x64 .f32) (r : Fin 1024) :
    k0_pay8 v28 v30 v38 v40 (ix2 r 0) = row v28 v30 v38 v40 r (next (row v28 v30 v38 v40 r)) := by
  pointwise [k0_pay8]
  simp only [ofBits_negInf, pay6_eq, pay7_eq, WordCmp.select_decide]
  exact max_two (row v28 v30 v38 v40 r)

/-- The running total grows by the block's two sums of maxima. -/
theorem pay9_eq (v28 : FVec Ideal S1024x128 .f32) (v30 : FVec Ideal S1x128 .f32) (v38 : Vec Ideal S64x128 .f32)
    (v40 : Vec Ideal S1x64 .f32) (a : EReal) :
    k0_pay9 v28 v30 v38 v40 a
      = a + ∑ r, (row v28 v30 v38 v40 r (best (row v28 v30 v38 v40 r)) + row v28 v30 v38 v40 r (next (row v28 v30 v38 v40 r))) := by
  pointwise [k0_pay9]
  simp only [pay6_eq, pay8_eq, Finset.univ_unique, Finset.sum_singleton, Finset.sum_add_distrib]

/-- The block of zeros. -/
theorem pay1_eq (r : Fin 1024) (o : Fin 64) : k0_pay1 (F := Ideal) (ix2 r o) = 0 := by
  pointwise [k0_pay1]

/-- The last block of the result: its first row is the gate's row, the others are zero. -/
theorem pay2_eq (v28 : FVec Ideal S1024x128 .f32) (v30 : FVec Ideal S1x128 .f32) (v38 : Vec Ideal S64x128 .f32)
    (v40 : Vec Ideal S1x64 .f32) (s : EReal)
    (hs : row v28 v30 v38 v40 0 (next (row v28 v30 v38 v40 0)) = ⊥ → s = ⊥) (r : Fin 1024) (o : Fin 64) :
    k0_pay2 (k0_pay5 v28 v30 v38 v40) (k0_pay6 v28 v30 v38 v40) (k0_pay7 v28 v30 v38 v40) (k0_pay8 v28 v30 v38 v40) s (ix2 r o)
      = if r = 0 then gate (row v28 v30 v38 v40 0) s o else 0 := by
  pointwise [k0_pay2]
  have hr : (BitVec.ofNat 32 r.val = 0#32) ↔ r = 0 := by
    have := r.isLt
    rw [show (0#32 : BitVec 32) = BitVec.ofNat 32 0 from rfl, WordCmp.ofNat_eq_ofNat_iff (by omega) (by omega), Fin.ext_iff]
    rfl
  simp only [WordCmp.cmpi_eq_eq, WordCmp.select_decide, hr]
  by_cases h : r = 0
  · subst h
    rw [if_pos rfl, if_pos rfl]
    rw [← gate_eq _ s hs o]
    have hw : ∀ a b : Fin 64, BitVec.ofNat 32 a.val = BitVec.ofNat 32 b.val ↔ a = b := fun a b => by
      have := a.isLt; have := b.isLt
      rw [WordCmp.ofNat_eq_ofNat_iff (by omega) (by omega), Fin.ext_iff]
    simp only [pay6_eq, pay7_eq, pay8_eq, WordCmp.select_decide, ofBits_negInf, pos_one, hw]
    rfl
  · rw [if_neg h, if_neg h]

end Cert.KernelIdeal.Block

end
-- ==== Proof.Spec.lean ====
/-
  The whole result as a function of the rows' scores.
-/
module

public import proofs.«01_k».proof.Proof.Row

@[expose] public section

noncomputable section

namespace Cert.Row

open Cert.TopTwo

/-- One row's two greatest scores added up. -/
def pair (f : Fin 64 → EReal) : EReal := f (best f) + f (next f)

/-- The sum over all rows of the two greatest scores. -/
def total (f : Fin 8192 → Fin 64 → EReal) : EReal := ∑ r, pair (f r)

/-- The result: the first row holds the gates of its two greatest scores, every other entry is zero. -/
def result (f : Fin 8192 → Fin 64 → EReal) (r : Fin 8192) (o : Fin 64) : EReal := if r = 0 then gate (f 0) (total f) o else 0

end Cert.Row

end
-- ==== Proof.Input.lean ====
/-
  What the pipelined call's input blocks hold at a grid point, in terms of the arguments, and so the scores of a block's rows.
-/
module

public import proofs.«01_k».proof.Proof.Gen.KernelIdeal.Value
public import proofs.«01_k».proof.Proof.Block
public import proofs.«01_k».proof.Proof.Spec
public import Idealize.ShloMosaic.Lib.Pipeline.ValueKit
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem Cert.Row

variable (m : (ℓ : Loc nD τ sig) → Buf (Elt Ideal) ℓ)

/-- Each window's block index at a grid point. -/
theorem idx : ∀ t : Fin cfg0.N, win0_0.index t = ![7 - t.val, 0] ∧ win0_1.index t = ![7 - t.val, 1] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![7 - t.val, 0] :=
  (by decide +kernel : ∀ t : Fin grid0.N, win0_0.index t = ![7 - t.val, 0] ∧ win0_1.index t = ![7 - t.val, 1] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![7 - t.val, 0])

/-- The array row that a grid point's block row `r` stands for: the blocks are taken from the last to the first. -/
def rowAt (t : Fin cfg0.N) (r : Fin 1024) : Fin 8192 := ⟨1024 * (7 - t.val) + r.val, by omega⟩

/-- The first half of a block row's features. -/
theorem read0 (c : Dev nD) (t : Fin cfg0.N) (r : Fin 1024) (k : Fin 2048) :
    iblk m c 0 t (ix2 r k) = m ((c : Thread nD τ).loc main_arg0) (ix2 (rowAt t r) (⟨k.val, by omega⟩ : Fin 4096)) := by
  unfold rowAt
  blk_ext! [iblk, V, idx t]

/-- The second half of a block row's features. -/
theorem read1 (c : Dev nD) (t : Fin cfg0.N) (r : Fin 1024) (k : Fin 2048) :
    iblk m c 1 t (ix2 r k) = m ((c : Thread nD τ).loc main_arg0) (ix2 (rowAt t r) (⟨2048 + k.val, by omega⟩ : Fin 4096)) := by
  unfold rowAt
  blk_ext! [iblk, V, idx t]

/-- The first layer's weights come whole. -/
theorem read2 (c : Dev nD) (t : Fin cfg0.N) : iblk m c 2 t = m ((c : Thread nD τ).loc main_arg1) := by blk_ext! [iblk, V, idx t]

/-- The first layer's bias comes as one row. -/
theorem read3 (c : Dev nD) (t : Fin cfg0.N) (j : Fin 128) :
    iblk m c 3 t (ix2 0 j) = m ((c : Thread nD τ).loc main_arg2) (ix1 j) := by
  blk_point [iblk, V, idx t]

/-- The second layer's weights come whole. -/
theorem read4 (c : Dev nD) (t : Fin cfg0.N) : iblk m c 4 t = m ((c : Thread nD τ).loc main_arg3) := by blk_ext! [iblk, V, idx t]

/-- The second layer's bias comes as one row. -/
theorem read5 (c : Dev nD) (t : Fin cfg0.N) (j : Fin 256) :
    iblk m c 5 t (ix2 0 j) = m ((c : Thread nD τ).loc main_arg4) (ix1 j) := by
  blk_point [iblk, V, idx t]

/-- The third layer's weights come whole. -/
theorem read6 (c : Dev nD) (t : Fin cfg0.N) : iblk m c 6 t = m ((c : Thread nD τ).loc main_arg5) := by blk_ext! [iblk, V, idx t]

/-- The third layer's bias comes as one row. -/
theorem read7 (c : Dev nD) (t : Fin cfg0.N) (j : Fin 128) :
    iblk m c 7 t (ix2 0 j) = m ((c : Thread nD τ).loc main_arg6) (ix1 j) := by
  blk_point [iblk, V, idx t]

/-- The fourth layer's weights come whole. -/
theorem read8 (c : Dev nD) (t : Fin cfg0.N) : iblk m c 8 t = m ((c : Thread nD τ).loc main_arg7) := by blk_ext! [iblk, V, idx t]

/-- The fourth layer's bias comes as one row. -/
theorem read9 (c : Dev nD) (t : Fin cfg0.N) (j : Fin 64) :
    iblk m c 9 t (ix2 0 j) = m ((c : Thread nD τ).loc main_arg8) (ix1 j) := by
  blk_point [iblk, V, idx t]

/-- The scores of array row `r` under the arguments. -/
def score (c : Dev nD) (r : Fin 8192) : Fin 64 → EReal :=
  scores (fun j k => m ((c : Thread nD τ).loc main_arg1) (ix2 j k)) (fun j => m ((c : Thread nD τ).loc main_arg2) (ix1 j))
    (fun k j => m ((c : Thread nD τ).loc main_arg3) (ix2 k j)) (fun k => m ((c : Thread nD τ).loc main_arg4) (ix1 k))
    (fun l k => m ((c : Thread nD τ).loc main_arg5) (ix2 l k)) (fun l => m ((c : Thread nD τ).loc main_arg6) (ix1 l))
    (fun o l => m ((c : Thread nD τ).loc main_arg7) (ix2 o l)) (fun o => m ((c : Thread nD τ).loc main_arg8) (ix1 o))
    (fun k => m ((c : Thread nD τ).loc main_arg0) (ix2 r k))

/-- The second layer's product at a grid point. -/
def hid (c : Dev nD) (t : Fin cfg0.N) : FVec Ideal S1024x128 .f32 :=
  k0_pay3 (iblk m c 0 t) (View.ld (iblk m c 2 t) (Rect.unit ![0, 0] ![128, 2048] inb_S128x4096_S128x2048_0_0))
    (iblk m c 1 t) (View.ld (iblk m c 2 t) (Rect.unit ![0, 2048] ![128, 2048] inb_S128x4096_S128x2048_0_2048))
    (iblk m c 3 t) (iblk m c 4 t) (iblk m c 5 t) (iblk m c 6 t)

/-- A block row's scores are the array row's. -/
theorem row_blk (c : Dev nD) (t : Fin cfg0.N) (r : Fin 1024) :
    row (hid m c t) (k0_pay4 (iblk m c 7 t)) (iblk m c 8 t) (iblk m c 9 t) r = score m c (rowAt t r) := by
  unfold hid
  refine (row_eq _ _ _ _ _ _ _ _ _ _ _ (fun k => m ((c : Thread nD τ).loc main_arg0) (ix2 (rowAt t r) k))
    (fun j k => m ((c : Thread nD τ).loc main_arg1) (ix2 j k)) r (read0 m c t r) (read1 m c t r) (fun j k => ?_) (fun j k => ?_)).trans ?_
  · rw [read2]
    generalize m ((c : Thread nD τ).loc main_arg1) = X
    pointwise
  · rw [read2]
    generalize m ((c : Thread nD τ).loc main_arg1) = X
    pointwise
  · unfold score
    rw [read4, read6, read8]
    simp only [read3, read5, read7, read9]

end Cert.KernelIdeal.Block

end
-- ==== Proof.Output.lean ====
/-
  What the pipelined call leaves in its output array: the running total over the grid's points, the block each point
  writes, and the whole array.
-/
module

public import proofs.«01_k».proof.Proof.Input
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem Cert.Row Cert.TopTwo

variable (m : (ℓ : Loc nD τ sig) → Buf (Elt Ideal) ℓ)

/-- The running total a grid point leaves. -/
def acc (c : Dev nD) (n : ℕ) (h : n < cfg0.N) : EReal := (outsAt0 m c n h).2 (Shape.Idx.first (by decide))

/-- One grid point's step of the running total. -/
def step (c : Dev nD) (t : Fin cfg0.N) (a : EReal) : EReal :=
  k0_pay9 (F := Ideal) (hid m c t) (k0_pay4 (iblk m c 7 t)) (iblk m c 8 t) (iblk m c 9 t) a

/-- The first point writes zeros and starts the total from zero. -/
theorem out_A (c : Dev nD) (t : Fin cfg0.N) (h0 : t.val % 8 = 0) (h1 : t.val < 7) (h2 : ¬t.val % 8 = 7) :
    outsAt0 m c t.val t.isLt = (k0_pay1 (F := Ideal), fun _ => step m c t 0) := by
  rw [outsAt0_A m c t h0 h1 h2]
  frame_out
  have hz : (FloatOps.ofBits .f32 0#32 : Ideal .f32) = (0 : EReal) := Ideal.ofBits_zero .f32
  rw [hz]
  rfl

/-- A middle point writes zeros and adds its part to the total. -/
theorem out_B (c : Dev nD) (t : Fin cfg0.N) (h0 : ¬t.val % 8 = 0) (h1 : t.val < 7) (h2 : ¬t.val % 8 = 7) :
    outsAt0 m c t.val t.isLt
      = (k0_pay1 (F := Ideal), fun _ => step m c t (acc m c (t.val - 1) (Nat.lt_of_le_of_lt (Nat.sub_le _ _) t.isLt))) := by
  rw [outsAt0_B m c t h0 h1 h2]
  frame_out
  simp only [read_unread_whole]
  rfl

/-- The last point adds its part to the total and writes the gates. -/
theorem out_C (c : Dev nD) (t : Fin cfg0.N) (h0 : ¬t.val % 8 = 0) (h1 : ¬t.val < 7) (h2 : t.val % 8 = 7) :
    outsAt0 m c t.val t.isLt
      = (k0_pay2 (F := Ideal) (k0_pay5 (hid m c t) (k0_pay4 (iblk m c 7 t)) (iblk m c 8 t) (iblk m c 9 t))
          (k0_pay6 (hid m c t) (k0_pay4 (iblk m c 7 t)) (iblk m c 8 t) (iblk m c 9 t))
          (k0_pay7 (hid m c t) (k0_pay4 (iblk m c 7 t)) (iblk m c 8 t) (iblk m c 9 t))
          (k0_pay8 (hid m c t) (k0_pay4 (iblk m c 7 t)) (iblk m c 8 t) (iblk m c 9 t))
          (step m c t (acc m c (t.val - 1) (Nat.lt_of_le_of_lt (Nat.sub_le _ _) t.isLt))),
        fun _ => step m c t (acc m c (t.val - 1) (Nat.lt_of_le_of_lt (Nat.sub_le _ _) t.isLt))) := by
  rw [outsAt0_C m c t h0 h1 h2]
  frame_out
  simp only [read_unread_whole]
  rfl

/-- One step adds the pairs of the block's rows. -/
theorem step_eq (c : Dev nD) (t : Fin cfg0.N) (a : EReal) : step m c t a = a + ∑ r, pair (score m c (rowAt t r)) := by
  unfold step
  rw [pay9_eq]
  simp only [row_blk]
  rfl

/-- The blocks' rows, over all grid points, are the array's rows. -/
theorem sum_rows (g : Fin 8192 → EReal) : ∑ t : Fin cfg0.N, ∑ r : Fin 1024, g (rowAt t r) = ∑ r, g r := by
  have hN : cfg0.N = 8 := N_0
  rw [← Fin.sum_mul_add_fin 8 1024 g]
  have e1 : ∀ t : Fin cfg0.N, 7 - t.val < 8 := fun t => by omega
  have e2 : ∀ s : Fin 8, 7 - s.val < cfg0.N := fun s => by omega
  have e3 : ∀ t : Fin cfg0.N, 7 - (7 - t.val) = t.val := fun t => by have := t.isLt; omega
  have e4 : ∀ s : Fin 8, 7 - (7 - s.val) = s.val := fun s => by have := s.isLt; omega
  refine Fintype.sum_equiv (⟨fun t => ⟨7 - t.val, e1 t⟩, fun s => ⟨7 - s.val, e2 s⟩, fun t => Fin.ext (e3 t), fun s => Fin.ext (e4 s)⟩ :
    Fin cfg0.N ≃ Fin 8) _ _ fun t => Finset.sum_congr rfl fun r _ => ?_
  refine congrArg g (Fin.ext ?_)
  show 1024 * (7 - t.val) + r.val = (7 - t.val) * 1024 + r.val
  omega

/-- After the last point the running total is the sum over all rows. -/
theorem acc_last (c : Dev nD) (t : Fin cfg0.N) (ht : t.val = 7) : acc m c t.val t.isLt = total (score m c) := by
  have hN : cfg0.N = 8 := N_0
  refine (Pipeline.eq_sum_fin_of_reset_step_last (acc m c) 8 0 (fun t => ∑ r, pair (score m c (rowAt t r)))
    (fun t h => ?_) (fun t h => ?_) (by omega) t (by omega)).trans ?_
  · have hl := t.isLt
    unfold acc
    rw [out_A m c t h (by omega) (by omega)]
    exact step_eq m c t 0
  · have hl := t.isLt
    by_cases h7 : t.val < 7
    · refine Eq.trans ?_ (step_eq m c t _)
      conv_lhs => unfold acc
      rw [out_B m c t h h7 (by omega)]
    · refine Eq.trans ?_ (step_eq m c t _)
      conv_lhs => unfold acc
      rw [out_C m c t h h7 (by omega)]
  · rw [zero_add]
    exact sum_rows fun r => pair (score m c r)

/-- The block a grid point leaves, at an index. -/
theorem out_apply (c : Dev nD) (t : Fin cfg0.N) (r : Fin 1024) (o : Fin 64) :
    (outsAt0 m c t.val t.isLt).1 (ix2 r o) = result (score m c) (rowAt t r) o := by
  have hN : cfg0.N = 8 := N_0
  have hl := t.isLt
  by_cases h7 : t.val < 7
  · have hr : rowAt t r ≠ 0 := fun h => by
      have h' : 1024 * (7 - t.val) + r.val = 0 := congrArg Fin.val h
      omega
    unfold result
    rw [if_neg hr]
    by_cases h : t.val % 8 = 0
    · rw [out_A m c t h h7 (by omega)]
      exact pay1_eq r o
    · rw [out_B m c t h h7 (by omega)]
      exact pay1_eq r o
  · have ht : t.val = 7 := by omega
    have h0 : rowAt t 0 = 0 := Fin.ext (by show 1024 * (7 - t.val) + 0 = 0; omega)
    have hr : rowAt t r = 0 ↔ r = 0 := by
      rw [Fin.ext_iff, Fin.ext_iff]
      show 1024 * (7 - t.val) + r.val = 0 ↔ r.val = 0
      omega
    have hs : step m c t (acc m c (t.val - 1) (Nat.lt_of_le_of_lt (Nat.sub_le _ _) t.isLt)) = total (score m c) := by
      rw [← acc_last m c t ht]
      conv_rhs => unfold acc
      rw [out_C m c t (by omega) h7 (by omega)]
    rw [out_C m c t (by omega) h7 (by omega), hs]
    refine (pay2_eq _ _ _ _ _ (fun hb => ?_) r o).trans ?_
    · rw [row_blk, h0] at hb
      refine sum_bot Finset.univ (fun r => pair (score m c r)) 0 (Finset.mem_univ _) ?_
      show score m c 0 (best (score m c 0)) + score m c 0 (next (score m c 0)) = ⊥
      rw [hb, EReal.add_bot]
    · rw [row_blk, h0]
      unfold result
      simp only [hr]

/-- After the run the output array holds the result. -/
theorem array_eq (c : Dev nD) :
    (dats m 0 c).arrAt 10 cfg0.N = fun i : S8192x64.Idx => result (score m c) (i 0) (i 1) := by
  refine (dats m 0 c).arrAt_eq_of_covers 10 _ (by decide +kernel) fun t hf y => ?_
  blk_simp
  rw [after0_10]
  idx_vars y
  refine (out_apply m c t y0 y1).trans (congrArg₂ (result (score m c)) (Fin.ext ?_) (Fin.ext ?_))
  · blk_simp [idx t]
    show 1024 * (7 - t.val) + y0.val = _
    omega
  · blk_simp [idx t]

end Cert.KernelIdeal.Block

end
-- ==== Proof.TopK.lean ====
/-
  The reference's selection of the two greatest entries of every row and its placing of two numbers into an array of
  zeros, both read at an index.
-/
module

public import proofs.«01_k».proof.Proof.Gen.ReferenceIdeal
public import proofs.«01_k».proof.Proof.TopTwo
public import Idealize.ShloMosaic.Lib.Routing.OpsSet
public import Idealize.ShloMosaic.Lib.Routing.OpsPair
public import Idealize.ShloMosaic.Lib.Pointwise

@[expose] public section

set_option maxRecDepth 16384

noncomputable section

namespace Cert.ReferenceIdeal.Result

open Cert.ReferenceIdeal Cert.ReferenceIdeal.Gen Idealize.ShloMosaic Cert.TopTwo

/-- The sort's `q`-th position in row `r` when the row is ordered from its greatest entry down. -/
def place (x : FVec Ideal S8192x64 .f32) (r : Fin 8192) (q : Fin 2) : Fin 64 :=
  sortedFrom (fun k k' : Fin 64 => FloatOps.cmpfTotal (F := Ideal) (φ := .f32) .gt (x (ix2 r k)) (x (ix2 r k')) == 1#1) ⟨q.val, by omega⟩

/-- Moving along an index's second coordinate replaces it. -/
theorem along_one (j : S8192x64.Idx) (k : Fin 64) : j.along (1 : Fin S8192x64.rank) k = ix2 (j 0) k := by
  funext a
  match a with
  | ⟨0, _⟩ => rfl
  | ⟨1, _⟩ => rfl

/-- The number at place `q` of row `r` of the selection is the row's entry at the sort's `q`-th position. -/
theorem topK_val (x : FVec Ideal S8192x64 .f32) (h : S8192x64.Slices (fun _ => 0) S8192x2) (r : Fin 8192) (q : Fin 2) :
    (Host.topK S8192x2 1 (FloatOps.cmpfTotal .gt) x h).1 (ix2 r q) = x (ix2 r (place x r q)) := by
  have key : ∀ p : S8192x64.Idx, p = ix2 r ⟨q.val, by omega⟩ →
      x (p.along (1 : Fin S8192x64.rank) (sortedFrom (fun k k' : Fin 64 => FloatOps.cmpfTotal (F := Ideal) (φ := .f32) .gt
          (x (p.along (1 : Fin S8192x64.rank) k)) (x (p.along (1 : Fin S8192x64.rank) k')) == 1#1) (p 1)))
        = x (ix2 r (place x r q)) := by
    rintro _ rfl
    simp only [along_one]
    exact congrArg x (along_one _ _)
  unfold Host.topK Host.sort2 extractStridedSlice
  dsimp only
  rw [dif_pos (by decide)]
  refine key _ (funext fun a => ?_)
  match a with
  | ⟨0, _⟩ => exact Fin.ext (Nat.zero_add _)
  | ⟨1, _⟩ => exact Fin.ext (Nat.zero_add _)

/-- The word at place `q` of row `r` of the selection is the sort's `q`-th position. -/
theorem topK_idx (x : FVec Ideal S8192x64 .f32) (h : S8192x64.Slices (fun _ => 0) S8192x2) (r : Fin 8192) (q : Fin 2) :
    (Host.topK S8192x2 1 (FloatOps.cmpfTotal .gt) x h).2 (ix2 r q) = BitVec.ofNat 32 (place x r q).val := by
  have key : ∀ (g : S8192x64.Idx → BitVec 32) (p : S8192x64.Idx), p = ix2 r ⟨q.val, by omega⟩ →
      g (p.along (1 : Fin S8192x64.rank) (sortedFrom (fun k k' : Fin 64 => FloatOps.cmpfTotal (F := Ideal) (φ := .f32) .gt
          (x (p.along (1 : Fin S8192x64.rank) k)) (x (p.along (1 : Fin S8192x64.rank) k')) == 1#1) (p 1)))
        = g (ix2 r (place x r q)) := by
    rintro g _ rfl
    simp only [along_one]
    exact congrArg g (along_one _ _)
  unfold Host.topK Host.sort2 extractStridedSlice
  dsimp only
  rw [dif_pos (by decide)]
  refine (key (iotaInDim S8192x64 32 1) _ (funext fun a => ?_)).trans ?_
  · match a with
    | ⟨0, _⟩ => exact Fin.ext (Nat.zero_add _)
    | ⟨1, _⟩ => exact Fin.ext (Nat.zero_add _)
  · rfl

/-- The sort's first two positions in a row are those of the row's greatest and next greatest entry. -/
theorem place_best (x : FVec Ideal S8192x64 .f32) (r : Fin 8192) :
    place x r 0 = best (fun o : Fin (62 + 2) => x (ix2 r o)) ∧ place x r 1 = next (fun o : Fin (62 + 2) => x (ix2 r o)) := by
  refine sortedFrom_best (n := 62) (fun o => x (ix2 r o)) _ fun k k' => ?_
  rw [Ideal.cmpfTotal_def]
  show (BitVec.ofBool (decide (x (ix2 r k') < x (ix2 r k))) == 1#1) = decide (x (ix2 r k') < x (ix2 r k))
  cases decide (x (ix2 r k') < x (ix2 r k)) <;> rfl

open Idealize.ShloMosaic.Routing in
/-- Update `k` of the scatter lands at the row and column its two index words name. -/
theorem scatter_lands (idx : IVec S2x2 32) (k : Fin 2) (r : Fin 8192) (c : Fin 64) :
    scatter_S8192x64_S2x2_S2_n_01_01_1.resultIdx? (ix1 k) idx = some (ix2 r c)
      ↔ (idx (ix2 k 0)).toInt = (r.val : Int) ∧ (idx (ix2 k 1)).toInt = (c.val : Int) := by
  have w0 : scatter_S8192x64_S2x2_S2_n_01_01_1.window (ix1 k) 0 = 0 := by
    unfold ScatterDims.window
    exact dif_neg (by decide)
  have w1 : scatter_S8192x64_S2x2_S2_n_01_01_1.window (ix1 k) 1 = 0 := by
    unfold ScatterDims.window
    exact dif_neg (by decide)
  have s0 : scatter_S8192x64_S2x2_S2_n_01_01_1.start (ix1 k) idx 0 = (idx (ix2 k 0)).toInt := by
    unfold ScatterDims.start
    refine (dif_pos (by decide)).trans (congrArg (fun q => (idx q).toInt) (funext fun b => ?_))
    match b with
    | ⟨0, _⟩ => rfl
    | ⟨1, _⟩ => rfl
  have s1 : scatter_S8192x64_S2x2_S2_n_01_01_1.start (ix1 k) idx 1 = (idx (ix2 k 1)).toInt := by
    unfold ScatterDims.start
    refine (dif_pos (by decide)).trans (congrArg (fun q => (idx q).toInt) (funext fun b => ?_))
    match b with
    | ⟨0, _⟩ => rfl
    | ⟨1, _⟩ => rfl
  rw [resultIdx?_eq_some]
  constructor
  · intro h
    have h0 := h 0
    have h1 := h 1
    rw [s0, w0] at h0
    rw [s1, w1] at h1
    exact ⟨by simpa using h0, by simpa using h1⟩
  · rintro ⟨h0, h1⟩ a
    match a with
    | ⟨0, _⟩ =>
      have := s0.trans h0
      show scatter_S8192x64_S2x2_S2_n_01_01_1.start (ix1 k) idx 0 + ((scatter_S8192x64_S2x2_S2_n_01_01_1.window (ix1 k) 0 : ℕ) : Int) = (r.val : Int)
      rw [this, w0]; simp
    | ⟨1, _⟩ =>
      have := s1.trans h1
      show scatter_S8192x64_S2x2_S2_n_01_01_1.start (ix1 k) idx 1 + ((scatter_S8192x64_S2x2_S2_n_01_01_1.window (ix1 k) 1 : ℕ) : Int) = (c.val : Int)
      rw [this, w1]; simp

end Cert.ReferenceIdeal.Result

end
-- ==== Proof.Reference.lean ====
/-
  The reference's result as one function of its arguments: zeros but for two entries of the first row.
-/
module

public import proofs.«01_k».proof.Proof.Gen.ReferenceIdeal.Read
public import proofs.«01_k».proof.Proof.Spec
public import proofs.«01_k».proof.Proof.TopK

@[expose] public section

set_option maxRecDepth 16384

noncomputable section

namespace Cert.ReferenceIdeal.Result

open Cert.ReferenceIdeal Cert.ReferenceIdeal.Gen Cert.ReferenceIdeal.Read Idealize.ShloMosaic Cert.TopTwo Cert.Row

variable (x0 : (⟨S8192x4096, .f32⟩ : BufTy).Contents (Elt Ideal)) (x1 : (⟨S128x4096, .f32⟩ : BufTy).Contents (Elt Ideal))
  (x2 : (⟨S128, .f32⟩ : BufTy).Contents (Elt Ideal)) (x3 : (⟨S256x128, .f32⟩ : BufTy).Contents (Elt Ideal))
  (x4 : (⟨S256, .f32⟩ : BufTy).Contents (Elt Ideal)) (x5 : (⟨S128x256, .f32⟩ : BufTy).Contents (Elt Ideal))
  (x6 : (⟨S128, .f32⟩ : BufTy).Contents (Elt Ideal)) (x7 : (⟨S64x128, .f32⟩ : BufTy).Contents (Elt Ideal))
  (x8 : (⟨S64, .f32⟩ : BufTy).Contents (Elt Ideal))

/-- The scores of row `r` of the first argument, under the weights and biases the other arguments hold. -/
def score (r : Fin 8192) : Fin 64 → EReal :=
  scores (fun j k => x1 (ix2 j k)) (fun j => x2 (ix1 j)) (fun k j => x3 (ix2 k j)) (fun k => x4 (ix1 k)) (fun l k => x5 (ix2 l k))
    (fun l => x6 (ix1 l)) (fun o l => x7 (ix2 o l)) (fun o => x8 (ix1 o)) (fun k => x0 (ix2 r k))

/-- The fourth layer's output at an index is the score. -/
theorem v30_apply (r : Fin 8192) (o : Fin 64) :
    val_main_v30 (F := Ideal) x0 x1 x2 x3 x4 x5 x6 x7 x8 (ix2 r o) = score x0 x1 x2 x3 x4 x5 x6 x7 x8 r o := by
  pointwise [val_main_v0, val_main_v1, val_main_v2, val_main_v3, val_main_v4, val_main_call0_cst, val_main_call0_v0,
    val_main_v5, val_main_v6, val_main_v7, val_main_v8, val_main_v9, val_main_v10, val_main_cst, val_main_v11,
    val_main_v12, val_main_cst_0, val_main_v13, val_main_v14, val_main_v15, val_main_v16, val_main_v17, val_main_v18,
    val_main_v19, val_main_v20, val_main_cst_1, val_main_v21, val_main_v22, val_main_cst_2, val_main_v23, val_main_v24,
    val_main_v25, val_main_v26, val_main_v27, val_main_v28, val_main_v29, val_main_v30]
  simp only [score, scores, dense, leaky, leakSlope]

/-- The selected numbers are each row's two greatest scores. -/
theorem values_apply (r : Fin 8192) :
    val_main_values (F := Ideal) x0 x1 x2 x3 x4 x5 x6 x7 x8 (ix2 r 0)
        = score x0 x1 x2 x3 x4 x5 x6 x7 x8 r (best (score x0 x1 x2 x3 x4 x5 x6 x7 x8 r))
      ∧ val_main_values (F := Ideal) x0 x1 x2 x3 x4 x5 x6 x7 x8 (ix2 r 1)
        = score x0 x1 x2 x3 x4 x5 x6 x7 x8 r (next (score x0 x1 x2 x3 x4 x5 x6 x7 x8 r)) := by
  have hp := place_best (val_main_v30 (F := Ideal) x0 x1 x2 x3 x4 x5 x6 x7 x8) r
  simp only [v30_apply] at hp
  unfold val_main_values
  rw [topK_val, topK_val, hp.1, hp.2, v30_apply, v30_apply]
  exact ⟨rfl, rfl⟩

/-- The selected words are the columns of each row's two greatest scores. -/
theorem indices_apply (r : Fin 8192) :
    val_main_indices (F := Ideal) x0 x1 x2 x3 x4 x5 x6 x7 x8 (ix2 r 0)
        = BitVec.ofNat 32 (best (score x0 x1 x2 x3 x4 x5 x6 x7 x8 r)).val
      ∧ val_main_indices (F := Ideal) x0 x1 x2 x3 x4 x5 x6 x7 x8 (ix2 r 1)
        = BitVec.ofNat 32 (next (score x0 x1 x2 x3 x4 x5 x6 x7 x8 r)).val := by
  have hp := place_best (val_main_v30 (F := Ideal) x0 x1 x2 x3 x4 x5 x6 x7 x8) r
  simp only [v30_apply] at hp
  unfold val_main_indices
  rw [topK_idx, topK_idx, hp.1, hp.2]
  exact ⟨rfl, rfl⟩

/-- The reduction of the selected numbers is the total. -/
theorem v36_apply (i : S_.Idx) : val_main_v36 (F := Ideal) x0 x1 x2 x3 x4 x5 x6 x7 x8 i = total (score x0 x1 x2 x3 x4 x5 x6 x7 x8) := by
  rw [val_main_v36_apply, sum_idx2]
  simp only [Fin.sum_univ_two, (values_apply x0 x1 x2 x3 x4 x5 x6 x7 x8 _).1, (values_apply x0 x1 x2 x3 x4 x5 x6 x7 x8 _).2]
  pointwise [val_main_cst_4]
  rfl

/-- The first row's selected numbers over the total. -/
theorem v38_apply (q : Fin 2) :
    val_main_v38 (F := Ideal) x0 x1 x2 x3 x4 x5 x6 x7 x8 (ix1 q)
      = Ideal.div (val_main_values (F := Ideal) x0 x1 x2 x3 x4 x5 x6 x7 x8 (ix2 0 q)) (total (score x0 x1 x2 x3 x4 x5 x6 x7 x8)) := by
  rw [val_main_v38_apply, val_main_v37_apply, v36_apply, val_main_v35_apply, val_main_v34_apply]
  have e : idx_main_v34 (idx_main_v35 (ix1 q)) = ix2 0 q := by
    funext a
    match a with
    | ⟨0, _⟩ => rfl
    | ⟨1, _⟩ => exact Fin.ext (Nat.mod_eq_of_lt q.isLt)
  rw [e]
  rfl

/-- The scatter's row words are zero. -/
theorem v48_row (q : Fin 2) : val_main_v48 (F := Ideal) x0 x1 x2 x3 x4 x5 x6 x7 x8 (ix2 q 0) = 0#32 := by
  pointwise [val_main_v48, val_main_v46, val_main_v45, val_main_v44, val_main_c_6]
  rfl

/-- The scatter's column words are the first row's selected columns. -/
theorem v48_col (q : Fin 2) (n : ℕ) (hn : n < 64)
    (hw : val_main_indices (F := Ideal) x0 x1 x2 x3 x4 x5 x6 x7 x8 (ix2 0 q) = BitVec.ofNat 32 n) :
    (val_main_v48 (F := Ideal) x0 x1 x2 x3 x4 x5 x6 x7 x8 (ix2 q 1)).toInt = (n : Int) := by
  have e : idx_main_v32 (idx_main_v33 (ix1 q)) = ix2 0 q := by
    funext a
    match a with
    | ⟨0, _⟩ => rfl
    | ⟨1, _⟩ => exact Fin.ext (Nat.mod_eq_of_lt q.isLt)
  have h : val_main_v48 (F := Ideal) x0 x1 x2 x3 x4 x5 x6 x7 x8 (ix2 q 1)
      = val_main_v33 (F := Ideal) x0 x1 x2 x3 x4 x5 x6 x7 x8 (ix1 q) := by
    pointwise [val_main_v48, val_main_v47, val_main_v43, val_main_v40, val_main_v39, val_main_c]
    refine Routing.wrap_of_lt _ _ ?_
    rw [val_main_v33_apply, val_main_v32_apply, e, hw, BitVec.toNat_ofNat]
    exact lt_of_le_of_lt (Nat.mod_le _ _) (lt_trans hn (by decide))
  rw [h, val_main_v33_apply, val_main_v32_apply, e, hw]
  exact WordCmp.toInt_ofNat_of_lt (by omega)

/-- Every write's column is the greatest or the next greatest score's, and its number that score's gate. -/
theorem result_eq (r : Fin 8192) (o : Fin 64) :
    val_main_v49 (F := Ideal) x0 x1 x2 x3 x4 x5 x6 x7 x8 (ix2 r o) = result (score x0 x1 x2 x3 x4 x5 x6 x7 x8) r o := by
  have hb := best_spec (n := 62) (score x0 x1 x2 x3 x4 x5 x6 x7 x8 0)
  have hi := indices_apply x0 x1 x2 x3 x4 x5 x6 x7 x8 0
  have hv := values_apply x0 x1 x2 x3 x4 x5 x6 x7 x8 0
  have c0 := v48_col x0 x1 x2 x3 x4 x5 x6 x7 x8 0 _ (best (n := 62) (score x0 x1 x2 x3 x4 x5 x6 x7 x8 0)).isLt hi.1
  have c1 := v48_col x0 x1 x2 x3 x4 x5 x6 x7 x8 1 _ (next (n := 62) (score x0 x1 x2 x3 x4 x5 x6 x7 x8 0)).isLt hi.2
  have u0 := v38_apply x0 x1 x2 x3 x4 x5 x6 x7 x8 0
  have u1 := v38_apply x0 x1 x2 x3 x4 x5 x6 x7 x8 1
  rw [hv.1] at u0
  rw [hv.2] at u1
  have hne : next (n := 62) (score x0 x1 x2 x3 x4 x5 x6 x7 x8 0) ≠ best (n := 62) (score x0 x1 x2 x3 x4 x5 x6 x7 x8 0) := hb.two.mem
  have two : ∀ q : Fin 2, q = 0 ∨ q = 1 := by decide
  have land : ∀ q : Fin 2, scatter_S8192x64_S2x2_S2_n_01_01_1.resultIdx? (ix1 q) (val_main_v48 (F := Ideal) x0 x1 x2 x3 x4 x5 x6 x7 x8)
      = some (ix2 r o) ↔ r = 0 ∧ o = if q = 0 then best (n := 62) (score x0 x1 x2 x3 x4 x5 x6 x7 x8 0)
        else next (n := 62) (score x0 x1 x2 x3 x4 x5 x6 x7 x8 0) := by
    intro q
    rw [scatter_lands, v48_row]
    refine and_congr ⟨fun h => Fin.ext ?_, fun h => by rw [h]; rfl⟩ ?_
    · have h' : (0 : Int) = (r.val : Int) := h
      show r.val = 0
      omega
    · rcases two q with rfl | rfl
      · refine (Eq.congr_left (c0 : _ = _)).trans ?_
        rw [if_pos rfl, Fin.ext_iff]
        omega
      · refine (Eq.congr_left (c1 : _ = _)).trans ?_
        rw [if_neg (by decide), Fin.ext_iff]
        omega
  unfold val_main_v49 result gate
  by_cases hr : r = 0
  · rw [if_pos hr]
    by_cases h0 : o = best (n := 62) (score x0 x1 x2 x3 x4 x5 x6 x7 x8 0)
    · rw [if_pos h0, ← u0]
      refine Routing.scatter_set_hit _ _ _ _ _ _ (fun k hk => ?_) (ix1 0) ((land 0).2 ⟨hr, h0⟩)
      obtain ⟨q, rfl⟩ : ∃ q : Fin 2, k = ix1 q := ⟨k 0, eq_ix1 k⟩
      have hq := ((land q).1 hk).2
      rcases two q with rfl | rfl
      · rfl
      · exact absurd (hq.symm.trans h0) hne
    · rw [if_neg h0]
      by_cases h1 : o = next (n := 62) (score x0 x1 x2 x3 x4 x5 x6 x7 x8 0)
      · rw [if_pos h1, ← u1]
        refine Routing.scatter_set_hit _ _ _ _ _ _ (fun k hk => ?_) (ix1 1) ((land 1).2 ⟨hr, h1⟩)
        obtain ⟨q, rfl⟩ : ∃ q : Fin 2, k = ix1 q := ⟨k 0, eq_ix1 k⟩
        have hq := ((land q).1 hk).2
        rcases two q with rfl | rfl
        · exact absurd hq h0
        · rfl
      · rw [if_neg h1, Routing.scatter_set_miss]
        · pointwise [val_main_v31, val_main_cst_3]
        · intro k hk
          obtain ⟨q, rfl⟩ : ∃ q : Fin 2, k = ix1 q := ⟨k 0, eq_ix1 k⟩
          have hq := ((land q).1 hk).2
          rcases two q with rfl | rfl
          · exact h0 hq
          · exact h1 hq
  · rw [if_neg hr, Routing.scatter_set_miss]
    · pointwise [val_main_v31, val_main_cst_3]
    · intro k hk
      obtain ⟨q, rfl⟩ : ∃ q : Fin 2, k = ix1 q := ⟨k 0, eq_ix1 k⟩
      exact hr ((land q).1 hk).1

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Output
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference's composed result, on arguments that equal the kernel's, is the array the kernel leaves. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v49 m' c = (Cert.KernelIdeal.Gen.dats m 0 c).arrAt 10 Cert.KernelIdeal.cfg0.N := by
  obtain ⟨h0, h1, h2, h3, h4, h5, h6, h7, h8⟩ := h
  rw [Cert.ReferenceIdeal.Read.val_main_v49_eq, h0, h1, h2, h3, h4, h5, h6, h7, h8, Cert.KernelIdeal.Block.array_eq]
  funext i
  refine (congrArg _ (eq_ix2 i)).trans ((Cert.ReferenceIdeal.Result.result_eq _ _ _ _ _ _ _ _ _ (i 0) (i 1)).trans ?_)
  rfl

/-- The kernel's and the reference's results are equal from equal arguments. -/
theorem algebraic : Cert.algebraic_KernelIdeal_ReferenceIdeal := by
  pair_intro
  · run_from Cert.KernelIdeal.Value.run_blocks m g
  · exact (θ_run Cert.ReferenceIdeal.defs _ _).mono (fun r h c => ⟨(h c).1.trans (value_eq m m' c (hagree c)), (h c).2⟩)
      (Cert.ReferenceIdeal.Value.run (F := Ideal) m' g')

/-- The reference's arguments end unchanged, and it declares no semaphore. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- Everything claimed of the kernel, its ideal reading and the reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    frame_reference, trivial, algebraic⟩

end Cert.Proof

end
